-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonzero_scales [hPre_nonzero_scales : Cert.Pre_nonzero_scales.Facts] (m : (ℓ : Loc Cert.KernelIdeal.nD Cert.KernelIdeal.τ Cert.KernelIdeal.sig) → Buf (Elt Ideal) ℓ) : Prop :=
  ∀ c : Dev Cert.KernelIdeal.nD,
    (Cert.Pre_nonzero_scales.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonzero_scales [hPre_nonzero_scales : Cert.Pre_nonzero_scales.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonzero_scales.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_nonzero_scales [hKernelIdeal : Cert.KernelIdeal.Facts] [hPre_nonzero_scales : Cert.Pre_nonzero_scales.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonzero_scales m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_nonzero_scales [hReferenceIdeal : Cert.ReferenceIdeal.Facts] [hPre_nonzero_scales : Cert.Pre_nonzero_scales.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonzero_scales m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_nonzero_scales [hKernelIdeal : Cert.KernelIdeal.Facts] [hReferenceIdeal : Cert.ReferenceIdeal.Facts] [hPre_nonzero_scales : Cert.Pre_nonzero_scales.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonzero_scales m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_nonzero_scales : Cert.Pre_nonzero_scales.Facts),
    quiescent_Kernel (hKernel := hKernel)
    ∧ quiescent_KernelIdeal (hKernelIdeal := hKernelIdeal)
    ∧ quiescent_KernelIdeal_pre_nonzero_scales (hKernelIdeal := hKernelIdeal) (hPre_nonzero_scales := hPre_nonzero_scales)
    ∧ quiescent_ReferenceIdeal (hReferenceIdeal := hReferenceIdeal)
    ∧ quiescent_ReferenceIdeal_pre_nonzero_scales (hReferenceIdeal := hReferenceIdeal) (hPre_nonzero_scales := hPre_nonzero_scales)
    ∧ preserves_Kernel_KernelIdeal
    ∧ algebraic_KernelIdeal_ReferenceIdeal_pre_nonzero_scales (hKernelIdeal := hKernelIdeal) (hReferenceIdeal := hReferenceIdeal) (hPre_nonzero_scales := hPre_nonzero_scales)
-- ==== Pre_nonzero_scales.lean ====
abbrev S8x4096x2048 : Shape := ⟨3, ![8, 4096, 2048]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S8x4096x2048 .f32) (main_arg1 : FVec F S8x4096x2048 .f32) (main_arg2 : FVec F S2048 .f32) (main_arg3 : FVec F S2048 .f32) (main_arg4 : FVec F S2048 .f32) : IVec S_ 1 :=
  let main_cst : FVec F S_ .f32 := constant S_ .f32 0x00000000#32
  let main_v0 : FVec F S2048 .f32 := broadcastInDim S2048 ![] bcast_S_S2048 main_cst
  let main_v1 : IVec S2048 1 := cmpf .une main_arg3 main_v0
  let main_c : IVec S_ 1 := constantI S_ 1 1#1
  let main_v2 : IVec S_ 1 := (fun x v => Host.reduce IntOp.andi x v reducesTo_S2048_S_d0 h_S_) main_v1 main_c
  main_v2
-- ==== Kernel.lean ====
abbrev S8x4096x2048 : Shape := ⟨3, ![8, 4096, 2048]⟩
abbrev S2048 : Shape := ⟨1, ![2048]⟩
abbrev S32768x2048 : Shape := ⟨2, ![32768, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S32768x2048, .f32⟩
  | .hbm, ⟨6, _⟩ => ⟨S32768x2048, .f32⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S32768x2048, .i8⟩
  | .hbm, ⟨11, _⟩ => ⟨S8x4096x2048, .i8⟩
  | .local _ .vmem, ⟨0, _⟩ => ⟨S1024x2048, .f32⟩
  | .local _ .vmem, ⟨1, _⟩ => ⟨S1024x2048, .f32⟩
  | .local _ .vmem, ⟨2, _⟩ => ⟨S1024x2048, .f32⟩
  | .local _ .vmem, ⟨3, _⟩ => ⟨S1024x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1024x2048, .i8⟩
  | .local _ .vmem, ⟨8, _⟩ => ⟨S1024x2048, .i8⟩
  | _, _ => ⟨S8x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x2048 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x4096x2048 : Shape := ⟨3, ![8, 4096, 2048]⟩
abbrev S2048 : Shape := ⟨1, ![2048]⟩
abbrev S_ : Shape := ⟨0, ![]⟩
abbrev S8x4096 : Shape := ⟨2, ![8, 4096]⟩
abbrev S8x4096x1 : Shape := ⟨3, ![8, 4096, 1]⟩
abbrev S1x1x2048 : Shape := ⟨3, ![1, 1, 2048]⟩

abbrev nBuf : Space → Nat
  | .hbm => 39
  | .vmem => 0
  | .smem => 0
  | _ => 0

abbrev bufTy : (tb : Table) → Fin (tcTables nBuf tb) → BufTy
  | .hbm, ⟨0, _⟩ => ⟨S8x4096x2048, .f32⟩
  | .hbm, ⟨1, _⟩ => ⟨S8x4096x2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S8x4096x2048, .f32⟩
  | .hbm, ⟨6, _⟩ => ⟨S8x4096x2048, .f32⟩
  | .hbm, ⟨7, _⟩ => ⟨S_, .f32⟩
  | .hbm, ⟨8, _⟩ => ⟨S8x4096, .f32⟩
  | .hbm, ⟨9, _⟩ => ⟨S8x4096x1, .f32⟩
  | .hbm, ⟨10, _⟩ => ⟨S_, .f32⟩
  | .hbm, ⟨11, _⟩ => ⟨S8x4096x1, .f32⟩
  | .hbm, ⟨12, _⟩ => ⟨S8x4096x1, .f32⟩
  | .hbm, ⟨13, _⟩ => ⟨S_, .f32⟩
  | .hbm, ⟨14, _⟩ => ⟨S8x4096x1, .f32⟩
  | .hbm, ⟨15, _⟩ => ⟨S8x4096x1, .f32⟩
  | .hbm, ⟨16, _⟩ => ⟨S8x4096x1, .f32⟩
  | .hbm, ⟨17, _⟩ => ⟨S8x4096x2048, .f32⟩
  | .hbm, ⟨18, _⟩ => ⟨S8x4096x2048, .f32⟩
  | .hbm, ⟨19, _⟩ => ⟨S1x1x2048, .f32⟩
  | .hbm, ⟨20, _⟩ => ⟨S8x4096x2048, .f32⟩
  | .hbm, ⟨21, _⟩ => ⟨S8x4096x2048, .f32⟩
  | .hbm, ⟨22, _⟩ => ⟨S1x1x2048, .f32⟩
  | .hbm, ⟨23, _⟩ => ⟨S8x4096x2048, .f32⟩
  | .hbm, ⟨24, _⟩ => ⟨S8x4096x2048, .f32⟩
  | .hbm, ⟨25, _⟩ => ⟨S8x4096x2048, .f32⟩
  | .hbm, ⟨26, _⟩ => ⟨S1x1x2048, .f32⟩
  | .hbm, ⟨27, _⟩ => ⟨S8x4096x2048, .f32⟩
  | .hbm, ⟨28, _⟩ => ⟨S8x4096x2048, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S8x4096x2048, .f32⟩
  | .hbm, ⟨33, _⟩ => ⟨S8x4096x2048, .f32⟩
  | .hbm, ⟨34, _⟩ => ⟨S_, .f32⟩
  | .hbm, ⟨35, _⟩ => ⟨S8x4096x2048, .f32⟩
  | .hbm, ⟨36, _⟩ => ⟨S8x4096x2048, .f32⟩
  | .hbm, ⟨37, _⟩ => ⟨S8x4096x2048, .i32⟩
  | .hbm, ⟨38, _⟩ => ⟨S8x4096x2048, .i8⟩
  | _, _ => ⟨S8x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_c : Ref sig .tc := ⟨.hbm, 29, rfl⟩
abbrev main_c_2 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Proof.Scalar.lean ====
/-
  One element of the quantised output, over the extended reals: the kernel's spelling of it,
  the reference's spelling of it, and the equation between the two. With `X` the residual sum at the element, `S` the
  sum of the squares of its row, `g`, `s`, `z` the weight, the scale and the zero point of its column:

    kernel     clip (round (X · (rsqrt (S/2048 + ε) · (g / s))) + z)     converted to 8 bits at once
    reference  clip (round ((X / √(S/2048 + ε) · g) / s) + z)            converted to 32 bits, then cut to 8

  The sum of squares is at least 0, so the mean square plus ε is positive (possibly +∞), where the reciprocal square root
  is the inverse of the square root; the division by `s` is a product with `s⁻¹` as soon as `s ≠ 0`. The clipped value
  lies between −128 and 127, so that neither conversion saturates and cutting to 8 bits loses nothing.
-/
module

public import Idealize.ShloMosaic.PureOps.Ideal
public import Idealize.ShloMosaic.PureOps.Ideal.Laws

@[expose] public section

noncomputable section

namespace Cert.Rms

open Idealize.ShloMosaic

/-! ## The literals -/

/-- The pattern of 2048.0. -/
theorem lit_len : Ideal.ofBits .f32 0x45000000#32 = ((2048 : ℝ) : EReal) := by
  simp [Ideal.ofBits, Ideal.ieee, -EReal.coe_mul]; norm_num

/-- The pattern of −128.0. -/
theorem lit_lo : Ideal.ofBits .f32 0xC3000000#32 = ((-128 : ℝ) : EReal) := by
  simp [Ideal.ofBits, Ideal.ieee, -EReal.coe_mul]; norm_num

/-- The pattern of 127.0. -/
theorem lit_hi : Ideal.ofBits .f32 0x42FE0000#32 = ((127 : ℝ) : EReal) := by
  simp [Ideal.ofBits, Ideal.ieee, -EReal.coe_mul]; norm_num

/-- The pattern of +0.0. -/
theorem lit_zero : Ideal.ofBits .f32 0x00000000#32 = 0 := by
  simp [Ideal.ofBits, Ideal.ieee]

/-- The pattern of the epsilon denotes a positive real. -/
theorem lit_eps : ∃ e : ℝ, 0 < e ∧ Ideal.ofBits .f32 0x358637BD#32 = (e : EReal) := by
  refine ⟨(8796093 : ℝ) * (2 : ℝ) ^ (-43 : ℤ), by positivity, ?_⟩
  simp [Ideal.ofBits, Ideal.ieee, -EReal.coe_mul]

/-! ## The normalisation -/

/-- The mean square of a row plus the epsilon, from the row's sum of squares. -/
def meanSq (S : EReal) : EReal :=
  Ideal.div S (Ideal.ofBits .f32 0x45000000#32) + Ideal.ofBits .f32 0x358637BD#32

/-- It is positive when the sum of squares is at least 0. -/
theorem meanSq_pos {S : EReal} (hS : 0 ≤ S) : 0 < meanSq S := by
  obtain ⟨e, he, hlit⟩ := lit_eps
  unfold meanSq
  rw [lit_len, hlit]
  have h2048 : ((2048 : ℝ) : EReal) ≠ 0 := by norm_num
  have hq : 0 ≤ Ideal.div S ((2048 : ℝ) : EReal) := by
    rw [Ideal.div, if_neg h2048]
    exact mul_nonneg hS (EReal.inv_nonneg_of_nonneg (by exact_mod_cast (by norm_num : (0 : ℝ) ≤ 2048)))
  have he' : (0 : EReal) < (e : EReal) := by exact_mod_cast he
  calc (0 : EReal) < (e : EReal) := he'
    _ = 0 + (e : EReal) := (zero_add _).symm
    _ ≤ Ideal.div S ((2048 : ℝ) : EReal) + (e : EReal) := by gcongr

/-- The square root of a positive extended real is not 0, and the reciprocal square root is its inverse. -/
theorem sqrt_of_pos {u : EReal} (hu : 0 < u) : Ideal.sqrt u ≠ 0 ∧ Ideal.rsqrt u = (Ideal.sqrt u)⁻¹ := by
  induction u using EReal.rec with
  | bot => exact absurd hu (by simp)
  | top => simp
  | coe r =>
    have hr : 0 < r := by exact_mod_cast hu
    have h1 : ¬ r < 0 := not_lt.mpr hr.le
    have h2 : r ≠ 0 := hr.ne'
    have h3 : Real.sqrt r ≠ 0 := (Real.sqrt_pos.mpr hr).ne'
    rw [Ideal.sqrt_coe, Ideal.rsqrt_coe, if_neg h1, if_neg h1, if_neg h2]
    exact ⟨by exact_mod_cast h3, EReal.coe_inv _⟩

/-- The scaled element: multiplying by the reciprocal square root times the quotient of weight by scale is dividing by
    the square root, multiplying by the weight and dividing by the scale, at a scale that is not 0. -/
theorem scaled_eq (X : EReal) {S : EReal} (g : EReal) {s : EReal} (hS : 0 ≤ S) (hs : s ≠ 0) :
    X * (Ideal.rsqrt (meanSq S) * Ideal.div g s)
      = Ideal.div (Ideal.div X (Ideal.sqrt (meanSq S)) * g) s := by
  obtain ⟨h0, hr⟩ := sqrt_of_pos (meanSq_pos hS)
  rw [hr, Ideal.div, Ideal.div, Ideal.div, if_neg hs, if_neg hs, if_neg h0]
  simp only [mul_assoc]

/-! ## The conversion -/

/-- A value clipped to [−128, 127] is a real number of that interval. -/
theorem clipped_real (v : EReal) :
    ∃ r : ℝ, -128 ≤ r ∧ r ≤ 127 ∧ min ((127 : ℝ) : EReal) (max ((-128 : ℝ) : EReal) v) = (r : EReal) := by
  induction v using EReal.rec with
  | bot => exact ⟨-128, by norm_num, by norm_num, by
      rw [max_eq_left bot_le]; exact min_eq_right (by exact_mod_cast (by norm_num : (-128 : ℝ) ≤ 127))⟩
  | top => exact ⟨127, by norm_num, by norm_num, by rw [max_eq_right le_top]; exact min_eq_left le_top⟩
  | coe r => exact ⟨min 127 (max (-128) r), le_min (by norm_num) (le_max_left _ _), min_le_left _ _, by
      push_cast; rfl⟩

/-- Converting a clipped value to 8 bits is converting it to 32 bits and keeping the low 8. -/
theorem convert_eq (v : EReal) :
    Ideal.fptosi 8 (min ((127 : ℝ) : EReal) (max ((-128 : ℝ) : EReal) v))
      = (Ideal.fptosi 32 (min ((127 : ℝ) : EReal) (max ((-128 : ℝ) : EReal) v))).setWidth 8 := by
  obtain ⟨r, hlo, hhi, e⟩ := clipped_real v
  rw [e, Ideal.fptosi, Ideal.fptosi, Ideal.toIntClamped_coe, Ideal.toIntClamped_coe]
  generalize hn : (if 0 ≤ r then ⌊r⌋ else ⌈r⌉) = n
  have h1 : -128 ≤ n := by
    rw [← hn]; split
    · exact Int.le_floor.mpr (by push_cast; exact hlo)
    · have h := hlo.trans (Int.le_ceil r); exact_mod_cast h
  have h2 : n ≤ 127 := by
    rw [← hn]; split
    · have h := (Int.floor_le r).trans hhi; exact_mod_cast h
    · exact Int.ceil_le.mpr (by push_cast; exact hhi)
  have e8 : max (-((2 ^ (8 - 1) : ℕ) : ℤ)) (min (((2 ^ (8 - 1) : ℕ) : ℤ) - 1) n) = n := by
    norm_num; omega
  have e32 : max (-((2 ^ (32 - 1) : ℕ) : ℤ)) (min (((2 ^ (32 - 1) : ℕ) : ℤ) - 1) n) = n := by
    norm_num; omega
  rw [e8, e32]
  apply BitVec.eq_of_toInt_eq
  rw [BitVec.toInt_setWidth, BitVec.toInt_ofInt, BitVec.toNat_ofInt]
  simp only [Int.bmod]
  omega

/-! ## One element -/

/-- The kernel's element: residual sum `X`, row's sum of squares `S`, weight `g`, scale `s`, zero point `z`. -/
def kernelCell (X S g s z : EReal) : BitVec 8 :=
  Ideal.fptosi 8 (min (Ideal.ofBits .f32 0x42FE0000#32) (max (Ideal.ofBits .f32 0xC3000000#32)
    (Ideal.liftRound Ideal.roundHalfEven (X * (Ideal.rsqrt (meanSq S) * Ideal.div g s)) + z)))

/-- The reference's element, of the same five values. -/
def refCell (X S g s z : EReal) : BitVec 8 :=
  (Ideal.fptosi 32 (min (((127#32 : BitVec 32).toInt : ℝ) : EReal) (max (((4294967168#32 : BitVec 32).toInt : ℝ) : EReal)
    (Ideal.liftRound Ideal.roundHalfEven (Ideal.div (Ideal.div X (Ideal.sqrt (meanSq S)) * g) s) + z)))).setWidth 8

/-- The two spellings are one element when the sum of squares is at least 0 and the scale is not 0. -/
theorem kernelCell_eq_refCell (X : EReal) {S : EReal} (g : EReal) {s : EReal} (z : EReal) (hS : 0 ≤ S) (hs : s ≠ 0) :
    kernelCell X S g s z = refCell X S g s z := by
  have a : (((127#32 : BitVec 32).toInt : ℝ) : EReal) = ((127 : ℝ) : EReal) := by
    rw [show (127#32 : BitVec 32).toInt = 127 by decide]; norm_num
  have b : (((4294967168#32 : BitVec 32).toInt : ℝ) : EReal) = ((-128 : ℝ) : EReal) := by
    rw [show (4294967168#32 : BitVec 32).toInt = -128 by decide]; norm_num
  rw [kernelCell, refCell, a, b, lit_lo, lit_hi, scaled_eq X g hS hs, convert_eq]

/-- A square is at least 0. -/
theorem square_nonneg (x : EReal) : 0 ≤ x * x := by
  rcases le_total 0 x with h | h
  · exact mul_nonneg h h
  · have := mul_nonneg (EReal.neg_nonneg.mpr h) (EReal.neg_nonneg.mpr h)
    rwa [neg_mul_neg] at this

end Cert.Rms

end

end
-- ==== Proof.Block.lean ====
/-
  What the kernel's body stores, read at one entry of its block: entry (r, c) of the block is
  the element `Cert.Rms.kernelCell` of row `r`'s residual sums and of column `c`'s weight, scale and zero point.
-/
module

public import proofs.«01_k».proof.Proof.Gen.KernelIdeal.Skeleton
public import proofs.«01_k».proof.Proof.Scalar
public import Idealize.ShloMosaic.Lib.Pointwise

@[expose] public section

noncomputable section

namespace Cert.Rms

open Idealize.ShloMosaic
open Cert.KernelIdeal Cert.KernelIdeal.Gen

/-- The residual sum of two (rows, 2048) arrays at an entry. -/
def resid {n : ℕ} (x1 x2 : (⟨2, ![n, 2048]⟩ : Shape).Idx → EReal) (r : Fin n) (c : Fin 2048) : EReal :=
  x1 (ix2 r c) + x2 (ix2 r c)

/-- The sum of the squares of row `r` of the residual sum. -/
def sumSq {n : ℕ} (x1 x2 : (⟨2, ![n, 2048]⟩ : Shape).Idx → EReal) (r : Fin n) : EReal :=
  ∑ k : Fin 2048, resid x1 x2 r k * resid x1 x2 r k

/-- The stored block at an entry. -/
theorem payload_apply (x1 x2 : S1024x2048.Idx → EReal) (g s z : S1x2048.Idx → EReal) (r : Fin 1024) (c : Fin 2048) :
    k0_pay1 (F := Ideal) x1 x2 g s z (ix2 r c)
      = kernelCell (resid x1 x2 r c) (sumSq x1 x2 r) (g (ix2 (0 : Fin 1) c)) (s (ix2 (0 : Fin 1) c)) (z (ix2 (0 : Fin 1) c)) := by
  pointwise [k0_pay1]

  rfl

end Cert.Rms

end

end
-- ==== Proof.Array.lean ====
/-
  The array the kernel's grid writes: point `t` of the 32 points stores rows 1024·t … 1024·t +
  1023, the blocks tile the (32768, 2048) array, and entry (r, c) of it ends at the element `Cert.Rms.kernelCell` of row
  `r` and column `c` of the arrays the grid found on entry.
-/
module

public import proofs.«01_k».proof.Proof.Gen.KernelIdeal.Frame
public import proofs.«01_k».proof.Proof.Block
public import Idealize.ShloMosaic.Lib.Pipeline.Value
public import Idealize.ShloMosaic.Lib.ValueIdxCore

@[expose] public section

noncomputable section

namespace Cert.Rms

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- Entry by entry, the quantised array of two (rows, 2048) arrays and three rows of 2048. -/
def quantFlat {n : ℕ} (x1 x2 : (⟨2, ![n, 2048]⟩ : Shape).Idx → EReal) (g s z : S1x2048.Idx → EReal)
    (r : Fin n) (c : Fin 2048) : BitVec 8 :=
  kernelCell (resid x1 x2 r c) (sumSq x1 x2 r) (g (ix2 (0 : Fin 1) c)) (s (ix2 (0 : Fin 1) c)) (z (ix2 (0 : Fin 1) c))

/-- The whole array the grid writes on device `c`, of the arrays it found on entry. -/
def whole (c : Dev nD) : Buf (Elt Ideal) ((c : Thread nD τ).loc main_v5) := fun i : S32768x2048.Idx =>
  quantFlat (n := 32768) (V m c main_v0) (V m c main_v1) (V m c main_v2) (V m c main_v3) (V m c main_v4) (i 0) (i 1)

/-- Row `r` of point `t`'s block is row 1024·t + r of the array. -/
def blockRow (t : Fin cfg0.N) (r : Fin 1024) : Fin 32768 :=
  ⟨1024 * t.val + r.val, by have h1 : t.val < 32 := t.isLt; have h2 := r.isLt; omega⟩

/-- The block indices of the two residual inputs and of the output: the point along the rows, 0 along the columns. -/
theorem index_rows : ∀ t : Fin grid0.N,
    (win0_0.index t 0 = t.val ∧ win0_0.index t 1 = 0) ∧ (win0_1.index t 0 = t.val ∧ win0_1.index t 1 = 0)
      ∧ (win0_5.index t 0 = t.val ∧ win0_5.index t 1 = 0) := by
  decide +kernel

/-- The block indices of the three rows of 2048: always 0. -/
theorem index_cols : ∀ t : Fin grid0.N,
    (win0_2.index t 0 = 0 ∧ win0_2.index t 1 = 0) ∧ (win0_3.index t 0 = 0 ∧ win0_3.index t 1 = 0)
      ∧ (win0_4.index t 0 = 0 ∧ win0_4.index t 1 = 0) := by
  decide +kernel

/-- The first residual input's block at an entry. -/
theorem iblk_x1 (c : Dev nD) (t : Fin cfg0.N) (r : Fin 1024) (k : Fin 2048) :
    (iblk m c 0 t : S1024x2048.Idx → EReal) (ix2 r k) = (V m c main_v0 : S32768x2048.Idx → EReal) (ix2 (blockRow t r) k) := by
  show (V m c main_v0 : S32768x2048.Idx → EReal) _ = _
  refine congrArg (V m c main_v0 : S32768x2048.Idx → EReal) (Shape.idx_ext₂ ?_ ?_)
  · show win0_0.index t 0 * 1024 + 1 * r.val = 1024 * t.val + r.val
    rw [(index_rows t).1.1]; omega
  · show win0_0.index t 1 * 2048 + 1 * k.val = k.val
    rw [(index_rows t).1.2]; omega

/-- The second residual input's block at an entry. -/
theorem iblk_x2 (c : Dev nD) (t : Fin cfg0.N) (r : Fin 1024) (k : Fin 2048) :
    (iblk m c 1 t : S1024x2048.Idx → EReal) (ix2 r k) = (V m c main_v1 : S32768x2048.Idx → EReal) (ix2 (blockRow t r) k) := by
  show (V m c main_v1 : S32768x2048.Idx → EReal) _ = _
  refine congrArg (V m c main_v1 : S32768x2048.Idx → EReal) (Shape.idx_ext₂ ?_ ?_)
  · show win0_1.index t 0 * 1024 + 1 * r.val = 1024 * t.val + r.val
    rw [(index_rows t).2.1.1]; omega
  · show win0_1.index t 1 * 2048 + 1 * k.val = k.val
    rw [(index_rows t).2.1.2]; omega

/-- The weights' block at an entry. -/
theorem iblk_g (c : Dev nD) (t : Fin cfg0.N) (k : Fin 2048) :
    (iblk m c 2 t : S1x2048.Idx → EReal) (ix2 (0 : Fin 1) k) = (V m c main_v2 : S1x2048.Idx → EReal) (ix2 (0 : Fin 1) k) := by
  show (V m c main_v2 : S1x2048.Idx → EReal) _ = _
  refine congrArg (V m c main_v2 : S1x2048.Idx → EReal) (Shape.idx_ext₂ ?_ ?_)
  · show win0_2.index t 0 * 1 + 1 * 0 = 0
    rw [(index_cols t).1.1]
  · show win0_2.index t 1 * 2048 + 1 * k.val = k.val
    rw [(index_cols t).1.2]; omega

/-- The scales' block at an entry. -/
theorem iblk_s (c : Dev nD) (t : Fin cfg0.N) (k : Fin 2048) :
    (iblk m c 3 t : S1x2048.Idx → EReal) (ix2 (0 : Fin 1) k) = (V m c main_v3 : S1x2048.Idx → EReal) (ix2 (0 : Fin 1) k) := by
  show (V m c main_v3 : S1x2048.Idx → EReal) _ = _
  refine congrArg (V m c main_v3 : S1x2048.Idx → EReal) (Shape.idx_ext₂ ?_ ?_)
  · show win0_3.index t 0 * 1 + 1 * 0 = 0
    rw [(index_cols t).2.1.1]
  · show win0_3.index t 1 * 2048 + 1 * k.val = k.val
    rw [(index_cols t).2.1.2]; omega

/-- The zero points' block at an entry. -/
theorem iblk_z (c : Dev nD) (t : Fin cfg0.N) (k : Fin 2048) :
    (iblk m c 4 t : S1x2048.Idx → EReal) (ix2 (0 : Fin 1) k) = (V m c main_v4 : S1x2048.Idx → EReal) (ix2 (0 : Fin 1) k) := by
  show (V m c main_v4 : S1x2048.Idx → EReal) _ = _
  refine congrArg (V m c main_v4 : S1x2048.Idx → EReal) (Shape.idx_ext₂ ?_ ?_)
  · show win0_4.index t 0 * 1 + 1 * 0 = 0
    rw [(index_cols t).2.2.1]
  · show win0_4.index t 1 * 2048 + 1 * k.val = k.val
    rw [(index_cols t).2.2.2]; omega

/-- The body's loads and its store start at the block's corner. -/
theorem corner : (![0, 0] : Fin 2 → Nat) = fun _ => 0 := funext fun a => by fin_cases a <;> rfl

/-- What the body leaves in the output's staging buffer, at an entry. -/
theorem stored_apply (x1 x2 : S1024x2048.Idx → EReal) (g s z : S1x2048.Idx → EReal) (r : Fin 1024) (k : Fin 2048) :
    (out0_5 (F := Ideal) x1 x2 g s z : S1024x2048.Idx → BitVec 8) (ix2 r k) = quantFlat x1 x2 g s z r k := by
  unfold out0_5
  rw [View.canon_unit_zero corner, View.ld_unit_zero corner, View.ld_unit_zero corner, View.ld_unit_zero corner,
    View.ld_unit_zero corner, View.ld_unit_zero corner]
  exact payload_apply x1 x2 g s z r k

/-- The element the point computes from its blocks is the element of the whole arrays at the block's row. -/
theorem quantFlat_block (c : Dev nD) (t : Fin cfg0.N) (r : Fin 1024) (k : Fin 2048) :
    quantFlat (n := 1024) (iblk m c 0 t) (iblk m c 1 t) (iblk m c 2 t) (iblk m c 3 t) (iblk m c 4 t) r k
      = quantFlat (n := 32768) (V m c main_v0) (V m c main_v1) (V m c main_v2) (V m c main_v3) (V m c main_v4) (blockRow t r) k := by
  unfold quantFlat sumSq resid
  simp only [iblk_x1, iblk_x2, iblk_g, iblk_s, iblk_z]

/-- What point `t` writes back is its block of the whole array. -/
theorem flushed_whole (c : Dev nD) (t : Fin cfg0.N) :
    (dats m 0 c).flushed 5 t = (win0_5.blk t).view.read (Elt Ideal) (whole m c) := by
  show (cfg0.win 5).cut (grid0.coords t) ((dats m 0 c).after 5 t) = _
  rw [after0_5]
  funext y
  have hy : (y : S1024x2048.Idx) = ix2 ((y : S1024x2048.Idx) 0) ((y : S1024x2048.Idx) 1) := by
    funext a; match a with
    | ⟨0, _⟩ => rfl
    | ⟨1, _⟩ => rfl
  generalize (y : S1024x2048.Idx) 0 = r at hy
  generalize (y : S1024x2048.Idx) 1 = k at hy
  subst hy
  refine (stored_apply _ _ _ _ _ r k).trans ?_
  refine (quantFlat_block m c t r k).trans ?_
  show _ = whole m c _
  unfold whole
  have h0 : blockRow t r = (((win0_5.blk t).view.emb (ix2 r k) : S32768x2048.Idx) 0) := Fin.ext (by
    show 1024 * t.val + r.val = win0_5.index t 0 * 1024 + 1 * r.val
    rw [(index_rows t).2.2.1]; omega)
  have h1 : k = (((win0_5.blk t).view.emb (ix2 r k) : S32768x2048.Idx) 1) := Fin.ext (by
    show k.val = win0_5.index t 1 * 2048 + 1 * k.val
    rw [(index_rows t).2.2.2]; omega)
  exact congrArg₂ (fun a b => quantFlat (n := 32768) (V m c main_v0) (V m c main_v1) (V m c main_v2) (V m c main_v3) (V m c main_v4) a b) h0 h1

/-- An entry of the array lies in point `t`'s block exactly when its row is one of the point's 1024. -/
theorem mem_block (t : Fin cfg0.N) (i : S32768x2048.Idx) :
    i ∈ ((cfg0.win 5).blk t).view.set ↔ t.val * 1024 ≤ (i 0 : Nat) ∧ (i 0 : Nat) < t.val * 1024 + 1024 := by
  show i ∈ ((View.whole main_v5).slice (win0_5.rect t)).set ↔ _
  rw [View.set_slice_whole, Rect.mem_set_unit]
  have hc : (i 1 : Nat) < 2048 := (i 1).isLt
  constructor
  · intro h
    have h' : win0_5.index t 0 * 1024 ≤ (i 0 : Nat) ∧ (i 0 : Nat) < win0_5.index t 0 * 1024 + 1024 := h 0
    rwa [(index_rows t).2.2.1] at h'
  · intro h a
    match a with
    | ⟨0, _⟩ =>
      show win0_5.index t 0 * 1024 ≤ (i 0 : Nat) ∧ (i 0 : Nat) < win0_5.index t 0 * 1024 + 1024
      rw [(index_rows t).2.2.1]; exact h
    | ⟨1, _⟩ =>
      show win0_5.index t 1 * 2048 ≤ (i 1 : Nat) ∧ (i 1 : Nat) < win0_5.index t 1 * 2048 + 2048
      rw [(index_rows t).2.2.2, Nat.zero_mul, Nat.zero_add]; exact ⟨Nat.zero_le _, hc⟩

/-- Every entry lies in the block of the point numbered by its row over 1024. -/
theorem blocks_cover (i : S32768x2048.Idx) :
    ∃ t : Fin cfg0.N, (cfg0.win 5).flush t = true ∧ i ∈ ((cfg0.win 5).blk t).view.set := by
  have h0 : (i 0 : Nat) < 32768 := ValueIdx.idx2_lt0 i
  have hN : cfg0.N = 32 := (by decide : grid0.N = 32)
  have ht : (i 0 : Nat) / 1024 < cfg0.N := by rw [hN]; omega
  refine ⟨⟨(i 0 : Nat) / 1024, ht⟩, flush0_5 _, ?_⟩
  rw [mem_block]
  dsimp only
  omega

/-- After the grid the output array is the whole array. -/
theorem final_whole (c : Dev nD) : (dats m 0 c).arrAt 5 cfg0.N = whole m c :=
  (dats m 0 c).arrAt_eq_of_cover 5 (whole m c) (fun t _ => flushed_whole m c t) blocks_cover

end Cert.Rms

end

end
-- ==== Proof.Result.lean ====
/-
  The kernel program's result: the host reshapes around the grid read through, so that entry
  (b, t, c) of the (8, 4096, 2048) result is the element `Cert.Rms.kernelCell` of the launch arguments.
-/
module

public import proofs.«01_k».proof.Proof.Array
public import Idealize.ShloMosaic.Lib.Claim
public import Idealize.ShloMosaic.Lib.ValueLayout

@[expose] public section

noncomputable section

namespace Cert.Rms

open Idealize.ShloMosaic Idealize.ShloMosaic.TcCoe Idealize.SL.Sem
open Cert.KernelIdeal Cert.KernelIdeal.Gen

/-- The residual sum of two (8, 4096, 2048) arrays at an entry. -/
def residAt (x1 x2 : S8x4096x2048.Idx → EReal) (b : Fin 8) (t : Fin 4096) (c : Fin 2048) : EReal :=
  x1 (ix3 b t c) + x2 (ix3 b t c)

/-- The sum of the squares of the residual sum along the last axis. -/
def sumSqAt (x1 x2 : S8x4096x2048.Idx → EReal) (b : Fin 8) (t : Fin 4096) : EReal :=
  ∑ k : Fin 2048, residAt x1 x2 b t k * residAt x1 x2 b t k

/-- It is at least 0. -/
theorem sumSqAt_nonneg (x1 x2 : S8x4096x2048.Idx → EReal) (b : Fin 8) (t : Fin 4096) : 0 ≤ sumSqAt x1 x2 b t :=
  Finset.sum_nonneg fun _ _ => square_nonneg _

/-- The flattened row of batch `b`, position `t`. -/
def flatRow (b : Fin 8) (t : Fin 4096) : Fin 32768 :=
  ⟨b.val * 4096 + t.val, by have h1 := b.isLt; have h2 := t.isLt; omega⟩

/-- Flattening the two leading axes, read at an entry. -/
theorem flatten_apply {α : Type} (x : S8x4096x2048.Idx → α) (h : S8x4096x2048.ShapeCasts S32768x2048)
    (b : Fin 8) (t : Fin 4096) (c : Fin 2048) :
    shapeCast S32768x2048 x h (ix2 (flatRow b t) c) = x (ix3 b t c) := by
  refine shapeCast_apply _ _ _ _ ?_
  rw [Shape.rowMajor_val_two, Shape.rowMajor_val_three]
  rfl

/-- Splitting the leading axis again, read at an entry. -/
theorem unflatten_apply {α : Type} (x : S32768x2048.Idx → α) (h : S32768x2048.ShapeCasts S8x4096x2048)
    (b : Fin 8) (t : Fin 4096) (c : Fin 2048) :
    shapeCast S8x4096x2048 x h (ix3 b t c) = x (ix2 (flatRow b t) c) := by
  refine shapeCast_apply _ _ _ _ ?_
  rw [Shape.rowMajor_val_two, Shape.rowMajor_val_three]
  rfl

/-- A vector made one row, read at an entry. -/
theorem row_apply {α : Type} (x : S2048.Idx → α) (h : S2048.ShapeCasts S1x2048) (c : Fin 2048) :
    shapeCast S1x2048 x h (ix2 (0 : Fin 1) c) = x (ix1 c) :=
  ValueIdx.shapeCast_a_1a_apply x h 0 c

variable (m : (ℓ : Loc nD τ sig) → Buf (Elt Ideal) ℓ)

/-- The first residual input as the grid finds it: the argument, flattened. -/
theorem entry_x1 (c : Dev nD) : V m c main_v0
    = shapeCast S32768x2048 (m ((c : Thread nD τ).loc main_arg0)) shapeCasts_S8x4096x2048_S32768x2048 := by
  entry_read; rfl

/-- The second residual input as the grid finds it: the argument, flattened. -/
theorem entry_x2 (c : Dev nD) : V m c main_v1
    = shapeCast S32768x2048 (m ((c : Thread nD τ).loc main_arg1)) shapeCasts_S8x4096x2048_S32768x2048 := by
  entry_read; rfl

/-- The weights as the grid finds them: the argument as one row. -/
theorem entry_g (c : Dev nD) : V m c main_v2
    = shapeCast S1x2048 (m ((c : Thread nD τ).loc main_arg2)) shapeCasts_S2048_S1x2048 := by
  entry_read; rfl

/-- The scales as the grid finds them: the argument as one row. -/
theorem entry_s (c : Dev nD) : V m c main_v3
    = shapeCast S1x2048 (m ((c : Thread nD τ).loc main_arg3)) shapeCasts_S2048_S1x2048 := by
  entry_read; rfl

/-- The zero points as the grid finds them: the argument as one row. -/
theorem entry_z (c : Dev nD) : V m c main_v4
    = shapeCast S1x2048 (m ((c : Thread nD τ).loc main_arg4)) shapeCasts_S2048_S1x2048 := by
  entry_read; rfl

/-- The result buffer after the run: the grid's array, its leading axis split. -/
theorem tail_result (c : Dev nD) :
    Pipeline.afterTail₀ cfgs (dats m) 0 (V0 m) [hostOps1] c main_v6
      = shapeCast S8x4096x2048 (whole m c) shapeCasts_S32768x2048_S8x4096x2048 := by
  have e : Pipeline.withArrays spec0 c (V0 m c) (fun w => (dats m 0 c).arrAt w cfg0.N) (Proc.devRef .tc main_v5) = whole m c :=
    (Pipeline.withArrays_arr spec0 launch0.win.arr_inj c (V0 m c) (fun w => (dats m 0 c).arrAt w cfg0.N) 5).trans (final_whole m c)
  unfold Pipeline.afterTail₀
  exact congrArg (fun A => shapeCast S8x4096x2048 A shapeCasts_S32768x2048_S8x4096x2048) e

/-- The result at an entry, of the launch arguments. -/
theorem result_apply (c : Dev nD) (b : Fin 8) (t : Fin 4096) (k : Fin 2048) :
    (Pipeline.afterTail₀ cfgs (dats m) 0 (V0 m) [hostOps1] c main_v6 : S8x4096x2048.Idx → BitVec 8) (ix3 b t k)
      = kernelCell (residAt (m ((c : Thread nD τ).loc main_arg0)) (m ((c : Thread nD τ).loc main_arg1)) b t k)
          (sumSqAt (m ((c : Thread nD τ).loc main_arg0)) (m ((c : Thread nD τ).loc main_arg1)) b t)
          ((m ((c : Thread nD τ).loc main_arg2) : S2048.Idx → EReal) (ix1 k))
          ((m ((c : Thread nD τ).loc main_arg3) : S2048.Idx → EReal) (ix1 k))
          ((m ((c : Thread nD τ).loc main_arg4) : S2048.Idx → EReal) (ix1 k)) := by
  rw [tail_result]
  refine (unflatten_apply _ _ b t k).trans ?_
  show quantFlat (n := 32768) (V m c main_v0) (V m c main_v1) (V m c main_v2) (V m c main_v3) (V m c main_v4) (flatRow b t) k = _
  rw [entry_x1, entry_x2, entry_g, entry_s, entry_z]
  unfold quantFlat sumSq resid sumSqAt residAt
  simp only [flatten_apply, row_apply]

end Cert.Rms

end

end
-- ==== Proof.Reference.lean ====
/-
  The reference program's result at an entry: the element `Cert.Rms.refCell` of its arguments.
-/
module

public import proofs.«01_k».proof.Proof.Gen.ReferenceIdeal.Read
public import proofs.«01_k».proof.Proof.Result
public import Idealize.ShloMosaic.Lib.Pointwise

@[expose] public section

noncomputable section

namespace Cert.Rms

open Idealize.ShloMosaic
open Cert.ReferenceIdeal Cert.ReferenceIdeal.Read

/-- The reference's row sum of squares at an entry. -/
theorem ref_sumSq (x0 x1 : S8x4096x2048.Idx → EReal) (i : S8x4096.Idx) :
    val_main_v2 (F := Ideal) x0 x1 i = sumSqAt x0 x1 (i 0) (i 1) := by
  rw [val_main_v2_apply]
  have h0 : (val_main_cst (F := Ideal)) (Shape.Idx.first Cert.ReferenceIdeal.Gen.h_S_) = 0 := lit_zero
  rw [h0, zero_add]
  unfold sumSqAt residAt
  refine Finset.sum_congr rfl fun k _ => ?_
  rw [val_main_v1_apply, val_main_v0_apply]
  have e : idx_main_v2 i k = ix3 (i 0) (i 1) k := by
    funext a; match a with
    | ⟨0, _⟩ => rfl
    | ⟨1, _⟩ => rfl
    | ⟨2, _⟩ => rfl
  rw [e]; rfl

/-- The reference's result at an entry. -/
theorem ref_apply (x0 x1 : S8x4096x2048.Idx → EReal) (x2 x3 x4 : S2048.Idx → EReal)
    (b : Fin 8) (t : Fin 4096) (k : Fin 2048) :
    val_main_v23 (F := Ideal) x0 x1 x2 x3 x4 (ix3 b t k)
      = refCell (residAt x0 x1 b t k) (sumSqAt x0 x1 b t) (x2 (ix1 k)) (x3 (ix1 k)) (x4 (ix1 k)) := by
  simp only [val_main_v23_apply, val_main_v22_apply, val_main_v21_apply, val_main_call1_v4_apply, val_main_call1_v3_apply,
    val_main_call1_v2_apply, val_main_call1_v1_apply, val_main_call1_v0_apply, val_main_v20_apply, val_main_v19_apply, val_main_v18_apply,
    val_main_v17_apply, val_main_v16_apply, val_main_v15_apply, val_main_v14_apply, val_main_v13_apply, val_main_v12_apply,
    val_main_v11_apply, val_main_v10_apply, val_main_v9_apply, val_main_v8_apply, val_main_v7_apply, val_main_v6_apply,
    val_main_v5_apply, val_main_v4_apply, val_main_v3_apply, val_main_v0_apply, ref_sumSq]
  have e1 : idx_main_v11 (idx_main_v12 (ix3 b t k)) = ix1 k := by funext a; match a with | ⟨0, _⟩ => rfl
  have e2 : idx_main_v14 (idx_main_v15 (ix3 b t k)) = ix1 k := by funext a; match a with | ⟨0, _⟩ => rfl
  have e3 : idx_main_v18 (idx_main_v19 (ix3 b t k)) = ix1 k := by funext a; match a with | ⟨0, _⟩ => rfl
  rw [e1, e2, e3]
  rfl

end Cert.Rms

end

end
-- ==== Proof.Equation.lean ====
/-
  The precondition read at a column, and the equation of the two programs' results.
-/
module

public import proofs.«01_k».proof.Proof.Gen.Pre_nonzero_scales
public import proofs.«01_k».proof.Proof.Result
public import proofs.«01_k».proof.Proof.Reference
public import Idealize.ShloMosaic.Lib.ReduceAll
public import Idealize.ShloMosaic.Lib.WordArith
public import Idealize.ShloMosaic.Lib.ValueIdxCore

@[expose] public section

noncomputable section

namespace Cert.Rms

open Idealize.ShloMosaic Idealize.ShloMosaic.TcCoe Idealize.SL.Sem
open Cert.KernelIdeal Cert.KernelIdeal.Gen

/-- Where the precondition is all ones, the scale of every column is not 0. -/
theorem scale_ne_zero (x0 x1 : S8x4096x2048.Idx → EReal) (x2 x3 x4 : S2048.Idx → EReal)
    (h : Cert.Pre_nonzero_scales.fn (F := Ideal) x0 x1 x2 x3 x4 = fun _ => 1#1) (k : Fin 2048) : x3 (ix1 k) ≠ 0 := by
  have h0 := congrFun h ValueIdx.ix0
  dsimp only [Cert.Pre_nonzero_scales.fn] at h0
  have h1 := Host.reduce_andi_all _ _ _ _ _ h0 (ix1 k)
  have h2 : BitVec.ofBool (decide (x3 (ix1 k) ≠ Ideal.ofBits .f32 0x00000000#32)) = 1#1 := h1
  rw [WordArith.ofBool_eq_one_iff, decide_eq_true_iff, lit_zero] at h2
  exact h2

/-- Under the precondition the kernel's result is the reference's, as arrays. -/
theorem results_eq (m : (ℓ : Loc nD τ sig) → Buf (Elt Ideal) ℓ) (c : Dev nD)
    (h : Cert.Pre_nonzero_scales.fn (F := Ideal) (m ((c : Thread nD τ).loc main_arg0)) (m ((c : Thread nD τ).loc main_arg1))
      (m ((c : Thread nD τ).loc main_arg2)) (m ((c : Thread nD τ).loc main_arg3)) (m ((c : Thread nD τ).loc main_arg4)) = fun _ => 1#1) :
    (Pipeline.afterTail₀ cfgs (dats m) 0 (V0 m) [hostOps1] c main_v6 : S8x4096x2048.Idx → BitVec 8)
      = Cert.ReferenceIdeal.Read.val_main_v23 (F := Ideal) (m ((c : Thread nD τ).loc main_arg0)) (m ((c : Thread nD τ).loc main_arg1))
          (m ((c : Thread nD τ).loc main_arg2)) (m ((c : Thread nD τ).loc main_arg3)) (m ((c : Thread nD τ).loc main_arg4)) := by
  funext i
  have hi : i = ix3 (i 0) (i 1) (i 2) := ValueIdx.eq_ix3 i
  generalize i 0 = b at hi
  generalize i 1 = t at hi
  generalize i 2 = k at hi
  subst hi
  refine (result_apply m c b t k).trans ?_
  refine Eq.trans ?_ (ref_apply _ _ _ _ _ b t k).symm
  exact kernelCell_eq_refCell _ _ _ (sumSqAt_nonneg _ _ b t) (scale_ne_zero _ _ _ _ _ h k)

end Cert.Rms

end

end
-- ==== Proof.lean ====
/-
  The proof of `Cert.Claim`: the five frames are the generated runs of the three programs, no operation of the kernel is
  rewritten by the idealization, and the algebraic claim joins the kernel's run to the reference's by
  `Cert.Rms.results_eq` (Proof/Equation.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_nonzero_scales
public import proofs.«01_k».proof.Proof.Equation
public import Idealize.ShloMosaic.Adequacy
public import Idealize.ShloMosaic.Init
public import Idealize.ShloMosaic.Lib.Claim
public import Idealize.ShloMosaic.Lib.Quiescent

@[expose] public section

noncomputable section

namespace Cert.Proof

open Idealize.ShloMosaic Idealize.SL.Sem Cert.Kernel

/-- The kernel and the reference end with equal results under the precondition: each program's run, its result at the
    array `Cert.Rms.results_eq` equates. -/
theorem algebraic : Cert.algebraic_KernelIdeal_ReferenceIdeal_pre_nonzero_scales := by
  intro m g m' g' hpre hagree
  refine ⟨fun c => Pipeline.afterTail₀ Cert.KernelIdeal.cfgs (Cert.KernelIdeal.Gen.dats m) 0 (Cert.KernelIdeal.Gen.V0 m)
    [Cert.KernelIdeal.Gen.hostOps1] c Cert.KernelIdeal.main_v6, ?_, ?_⟩
  · exact (θ_run Cert.KernelIdeal.defs _ _).mono (fun r h => fun c =>
      ⟨(h.1 c).2 Cert.KernelIdeal.main_v6 (Pipeline.mem_restRefs_of Cert.KernelIdeal.main_v6 (by decide) (by decide)), h.2 c⟩)
      (θ_run_and (Cert.KernelIdeal.Gen.run_main m g) (Cert.KernelIdeal.Gen.unchanged m g))
  · refine (θ_run Cert.ReferenceIdeal.defs _ _).mono (fun r h => fun c => ⟨?_, (h c).2⟩) (Cert.ReferenceIdeal.Value.run (F := Ideal) m' g')
    refine ((h c).1.trans (Cert.ReferenceIdeal.Read.val_main_v23_eq ..)).trans ?_
    obtain ⟨h0, h1, h2, h3, h4⟩ := hagree c
    rw [h0, h1, h2, h3, h4]
    exact (Cert.Rms.results_eq m c (hpre c)).symm

/-- Everything the certificate claims. -/
theorem claim : Cert.Claim :=
  ⟨Cert.Kernel.Gen.facts, Cert.KernelIdeal.Gen.facts, Cert.ReferenceIdeal.Gen.facts, Cert.Pre_nonzero_scales.Gen.facts,
    fun m ρ _ => Cert.Kernel.Gen.frame m ρ,
    fun m ρ _ => Cert.KernelIdeal.Gen.frame m ρ,
    fun m ρ _ => Cert.KernelIdeal.Gen.frame m ρ,
    fun m ρ _ => (θ_run Cert.ReferenceIdeal.defs _ _).mono
      (fun r h => ⟨fun c => (h c).2, sem_eq_zero_of_no_sems (by decide) r.2⟩) (Cert.ReferenceIdeal.Value.run (F := Ideal) m ρ),
    fun m ρ _ => (θ_run Cert.ReferenceIdeal.defs _ _).mono
      (fun r h => ⟨fun c => (h c).2, sem_eq_zero_of_no_sems (by decide) r.2⟩) (Cert.ReferenceIdeal.Value.run (F := Ideal) m ρ),
    trivial,
    algebraic⟩

end Cert.Proof

end
